-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x7168 : Shape := ⟨3, ![2, 512, 7168]⟩
abbrev S3584x36864 : Shape := ⟨2, ![3584, 36864]⟩
abbrev S56x36864 : Shape := ⟨2, ![56, 36864]⟩
abbrev S1024x7168 : Shape := ⟨2, ![1024, 7168]⟩
abbrev S1024x36864 : Shape := ⟨2, ![1024, 36864]⟩
abbrev S3584x2048 : Shape := ⟨2, ![3584, 2048]⟩
abbrev S56x2048 : Shape := ⟨2, ![56, 2048]⟩
abbrev S1024x2048 : Shape := ⟨2, ![1024, 2048]⟩
abbrev S7168x2048 : Shape := ⟨2, ![7168, 2048]⟩
abbrev S56x128x2048 : Shape := ⟨3, ![56, 128, 2048]⟩
abbrev S56x1x2048 : Shape := ⟨3, ![56, 1, 2048]⟩
abbrev S2x512x36864 : Shape := ⟨3, ![2, 512, 36864]⟩

abbrev nBuf : Space → Nat
  | .hbm => 7
  | .vmem => 9
  | .smem => 0
  | _ => 0

abbrev bufTy : (tb : Table) → Fin (tcTables nBuf tb) → BufTy
  | .hbm, ⟨0, _⟩ => ⟨S2x512x7168, .bf16⟩
  | .hbm, ⟨1, _⟩ => ⟨S3584x36864, .i8⟩
  | .hbm, ⟨2, _⟩ => ⟨S56x36864, .bf16⟩
  | .hbm, ⟨3, _⟩ => ⟨S56x36864, .i8⟩
  | .hbm, ⟨4, _⟩ => ⟨S1024x7168, .bf16⟩
  | .hbm, ⟨5, _⟩ => ⟨S1024x36864, .bf16⟩
  | .hbm, ⟨6, _⟩ => ⟨S2x512x36864, .bf16⟩
  | .local _ .vmem, ⟨0, _⟩ => ⟨S1024x7168, .bf16⟩
  | .local _ .vmem, ⟨1, _⟩ => ⟨S3584x2048, .i8⟩
  | .local _ .vmem, ⟨2, _⟩ => ⟨S3584x2048, .i8⟩
  | .local _ .vmem, ⟨3, _⟩ => ⟨S56x2048, .bf16⟩
  | .local _ .vmem, ⟨4, _⟩ => ⟨S56x2048, .bf16⟩
  | .local _ .vmem, ⟨5, _⟩ => ⟨S56x2048, .i8⟩
  | .local _ .vmem, ⟨6, _⟩ => ⟨S56x2048, .i8⟩
  | .local _ .vmem, ⟨7, _⟩ => ⟨S1024x2048, .bf16⟩
  | .local _ .vmem, ⟨8, _⟩ => ⟨S1024x2048, .bf16⟩
  | _, _ => ⟨S2x512x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x512x7168 : Shape := ⟨3, ![2, 512, 7168]⟩
abbrev S3584x36864 : Shape := ⟨2, ![3584, 36864]⟩
abbrev S56x36864 : Shape := ⟨2, ![56, 36864]⟩
abbrev S_ : Shape := ⟨0, ![]⟩
abbrev S3584x1x36864 : Shape := ⟨3, ![3584, 1, 36864]⟩
abbrev S3584x2x36864 : Shape := ⟨3, ![3584, 2, 36864]⟩
abbrev S56x128x36864 : Shape := ⟨3, ![56, 128, 36864]⟩
abbrev S56x1x36864 : Shape := ⟨3, ![56, 1, 36864]⟩
abbrev S7168x36864 : Shape := ⟨2, ![7168, 36864]⟩
abbrev S2x512x36864 : Shape := ⟨3, ![2, 512, 36864]⟩

abbrev nBuf : Space → Nat
  | .hbm => 27
  | .vmem => 0
  | .smem => 0
  | _ => 0

abbrev bufTy : (tb : Table) → Fin (tcTables nBuf tb) → BufTy
  | .hbm, ⟨0, _⟩ => ⟨S2x512x7168, .bf16⟩
  | .hbm, ⟨1, _⟩ => ⟨S3584x36864, .i8⟩
  | .hbm, ⟨2, _⟩ => ⟨S56x36864, .bf16⟩
  | .hbm, ⟨3, _⟩ => ⟨S56x36864, .i8⟩
  | .hbm, ⟨4, _⟩ => ⟨S3584x36864, .i32⟩
  | .hbm, ⟨5, _⟩ => ⟨S_, .i32⟩
  | .hbm, ⟨6, _⟩ => ⟨S3584x36864, .i32⟩
  | .hbm, ⟨7, _⟩ => ⟨S3584x36864, .i32⟩
  | .hbm, ⟨8, _⟩ => ⟨S_, .i32⟩
  | .hbm, ⟨9, _⟩ => ⟨S3584x36864, .i32⟩
  | .hbm, ⟨10, _⟩ => ⟨S3584x36864, .i32⟩
  | .hbm, ⟨11, _⟩ => ⟨S3584x1x36864, .i32⟩
  | .hbm, ⟨12, _⟩ => ⟨S3584x1x36864, .i32⟩
  | .hbm, ⟨13, _⟩ => ⟨S3584x2x36864, .i32⟩
  | .hbm, ⟨14, _⟩ => ⟨S56x128x36864, .i32⟩
  | .hbm, ⟨15, _⟩ => ⟨S56x128x36864, .bf16⟩
  | .hbm, ⟨16, _⟩ => ⟨S56x36864, .i32⟩
  | .hbm, ⟨17, _⟩ => ⟨S56x36864, .bf16⟩
  | .hbm, ⟨18, _⟩ => ⟨S56x1x36864, .bf16⟩
  | .hbm, ⟨19, _⟩ => ⟨S56x1x36864, .bf16⟩
  | .hbm, ⟨20, _⟩ => ⟨S56x128x36864, .bf16⟩
  | .hbm, ⟨21, _⟩ => ⟨S56x128x36864, .bf16⟩
  | .hbm, ⟨22, _⟩ => ⟨S56x128x36864, .bf16⟩
  | .hbm, ⟨23, _⟩ => ⟨S56x128x36864, .bf16⟩
  | .hbm, ⟨24, _⟩ => ⟨S7168x36864, .bf16⟩
  | .hbm, ⟨25, _⟩ => ⟨S2x512x36864, .f32⟩
  | .hbm, ⟨26, _⟩ => ⟨S2x512x36864, .bf16⟩
  | _, _ => ⟨S2x512x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Nibble.lean ====
/-
  Hand-written, untrusted. The arithmetic of one packed byte: its two 4-bit codes as the kernel reads them (a bf16 word
  whose low mantissa bits are the code, worth 128 more than the code) and as the reference reads them (a mask, a shift).
-/
module

public import Idealize.ShloMosaic.Lib.Pointwise
public import Idealize.ShloMosaic.Lib.BitcastPair

@[expose] public section

noncomputable section

namespace Cert.Proof.Nibble

open Idealize.ShloMosaic

/-- The 4-bit code at parity `q` of a packed byte: the low half of the byte at 0, the high half at 1. -/
def code (b : BitVec 8) (q : ℕ) : ℕ := (b.toNat / 16 ^ q) % 16

/-- The bf16 word `0x43_0n` is the number `128 + n`, for a 4-bit `n`. -/
theorem ofBits_biased (n : ℕ) (h : n < 16) : Ideal.ofBits .bf16 (BitVec.ofNat 16 (0x4300 + n)) = (((128 + n : ℕ) : ℝ) : EReal) := by
  interval_cases n <;> (simp [Ideal.ofBits, Ideal.ieee]; try norm_num)

/-- The bf16 word `0x4300` is 128. -/
theorem ofBits_128 : Ideal.ofBits .bf16 0x4300#16 = ((128 : ℝ) : EReal) := by
  have h := ofBits_biased 0 (by decide)
  simpa using h

/-- The biased words made of a packed byte: half `q` of the 32-bit word is `0x43_0n`, with `n` the code at parity `q`. -/
theorem half_eq (b : BitVec 8) (q : ℕ) (hq : q < 2) :
    (((b.setWidth 32 ||| b.setWidth 32 <<< 12) &&& 983055#32) ||| 1124090624#32).extractLsb' (16 * q) 16
      = BitVec.ofNat 16 (0x4300 + code b q) := by
  have h0 : ∀ b : BitVec 8, (((b.setWidth 32 ||| b.setWidth 32 <<< 12) &&& 983055#32) ||| 1124090624#32).extractLsb' (16 * 0) 16
      = BitVec.ofNat 16 (0x4300 + code b 0) := by decide +kernel
  have h1 : ∀ b : BitVec 8, (((b.setWidth 32 ||| b.setWidth 32 <<< 12) &&& 983055#32) ||| 1124090624#32).extractLsb' (16 * 1) 16
      = BitVec.ofNat 16 (0x4300 + code b 1) := by decide +kernel
  interval_cases q
  · exact h0 b
  · exact h1 b

/-- One weight: the code at parity `q` of the packed byte `b`, less the zero point `z`, times the scale `s`. -/
def weight (b : BitVec 8) (q : ℕ) (z : BitVec 8) (s : EReal) : EReal :=
  (((code b q : ℝ) : EReal) - ((z.toNat : ℝ) : EReal)) * s

/-- A byte widened with zeros and read as a signed integer is its unsigned value. -/
theorem sitofp_byte (φ : FTy) (z : BitVec 8) :
    (FloatOps.sitofp (F := Ideal) φ (z.setWidth 32) : EReal) = ((z.toNat : ℝ) : EReal) := by
  have h : (z.setWidth 32).toInt = (z.toNat : ℤ) := by
    rw [BitVec.toInt_eq_toNat_of_lt (by rw [BitVec.toNat_setWidth]; have := z.isLt; omega), BitVec.toNat_setWidth]
    have := z.isLt; omega
  show (((z.setWidth 32).toInt : ℝ) : EReal) = _
  rw [h]; norm_cast

/-- The 4-bit code of a byte is below 16. -/
theorem code_lt (b : BitVec 8) (q : ℕ) : code b q < 16 := Nat.mod_lt _ (by decide)

/-- The biased word less the bias is the code. -/
theorem unbias (b : BitVec 8) (q : ℕ) :
    (Ideal.ofBits .bf16 (BitVec.ofNat 16 (0x4300 + code b q)) - Ideal.ofBits .bf16 17152#16 : EReal)
      = ((code b q : ℝ) : EReal) := by
  rw [ofBits_biased _ (code_lt b q), ofBits_128, ← EReal.coe_sub]
  have h : ((128 + code b q : ℕ) : ℝ) - 128 = (code b q : ℝ) := by push_cast; ring
  rw [h]

/-- The low half of a widened byte, read as a signed integer, is its code at parity 0. -/
theorem sitofp_low (φ : FTy) (b : BitVec 8) :
    (FloatOps.sitofp (F := Ideal) φ (IntOp.andi (b.setWidth 32) 15#32) : EReal) = ((code b 0 : ℝ) : EReal) := by
  have h : ∀ b : BitVec 8, (IntOp.andi (b.setWidth 32) 15#32).toInt = (code b 0 : ℤ) := by decide +kernel
  show (((IntOp.andi (b.setWidth 32) 15#32).toInt : ℝ) : EReal) = _
  rw [h]; norm_cast

/-- A widened byte shifted right by four, read as a signed integer, is its code at parity 1. -/
theorem sitofp_high (φ : FTy) (b : BitVec 8) :
    (FloatOps.sitofp (F := Ideal) φ (IntOp.shrsi .host (b.setWidth 32) 4#32) : EReal) = ((code b 1 : ℝ) : EReal) := by
  have h : ∀ b : BitVec 8, (IntOp.shrsi .host (b.setWidth 32) 4#32).toInt = (code b 1 : ℤ) := by decide +kernel
  show (((IntOp.shrsi .host (b.setWidth 32) 4#32).toInt : ℝ) : EReal) = _
  rw [h]; norm_cast

end Cert.Proof.Nibble

end
-- ==== Proof.Block.lean ====
/-
  Hand-written, untrusted. What one grid point computes: its payload's element as a sum over the 7168 input features.
-/
module

public import proofs.«01_k».proof.Defs
public import proofs.«01_k».proof.Proof.Gen.KernelIdeal.Skeleton
public import Idealize.ShloMosaic.Lib.Pointwise
public import proofs.«01_k».proof.Proof.Nibble

@[expose] public section

set_option maxRecDepth 16384

noncomputable section

namespace Cert.Proof.Block

open Idealize.ShloMosaic Cert.Proof.Nibble Cert.KernelIdeal Cert.KernelIdeal.Gen

/-- The bitcast of the biased words, at row `k` and column `j`: half `k % 2` of the word in row `k / 2`. -/
theorem bitcast_at (x : IVec S3584x2048 32) (k : Fin 7168) (j : Fin 2048) :
    bitcast S7168x2048 16 x bitcasts_S3584x2048_w32_S7168x2048_w16 (ix2 k j)
      = (x (ix2 ⟨k.val / 2, by omega⟩ j)).extractLsb' (16 * (k.val % 2)) 16 := by
  rw [bitcast_32_16]
  have e : bitcasts_S3584x2048_w32_S7168x2048_w16.srcIdx (ix2 k j) (S7168x2048.row (ix2 k j) / 2)
      (fun a ha => by
        have := bitcasts_S3584x2048_w32_S7168x2048_w16.pos_lt (ix2 k j) 0 (by decide) a ha; omega)
      = ix2 ⟨k.val / 2, by omega⟩ j := by
    funext a; apply Fin.ext
    match a with
    | ⟨0, _⟩ => rfl
    | ⟨1, _⟩ => rfl
  rw [e]
  rfl

/-- What one grid point computes: element `(i, j)` of its block of the result is the sum over the 7168 input features of
    the activation times the dequantised weight. -/
theorem pay_apply (v0 : Vec Ideal S3584x2048 .i8) (v1 : Vec Ideal S56x2048 .bf16) (v2 : Vec Ideal S56x2048 .i8)
    (v25 : Vec Ideal S1024x7168 .bf16) (i : Fin 1024) (j : Fin 2048) :
    (k0_pay1 (F := Ideal) v0 v1 v2 v25 (ix2 i j) : EReal)
      = ∑ k : Fin 7168, (v25 (ix2 i k) : EReal) * weight (v0 (ix2 ⟨k.val / 2, by omega⟩ j)) (k.val % 2)
          (v2 (ix2 ⟨k.val / 128, by omega⟩ j)) (v1 (ix2 ⟨k.val / 128, by omega⟩ j)) := by
  pointwise [k0_pay1]
  refine Finset.sum_congr rfl fun k _ => ?_
  rw [bitcast_at]
  congr 1
  unfold weight
  congr 1
  rw [sitofp_byte]
  congr 1
  refine Eq.trans ?_ (unbias (v0 (ix2 ⟨k.val / 2, by omega⟩ j)) (k.val % 2))
  rw [← half_eq _ _ (Nat.mod_lt _ (by decide))]
  rfl

end Cert.Proof.Block

end
-- ==== Proof.KernelValue.lean ====
/-
  Hand-written, untrusted. The kernel's run with its value: each point writes back its block of one whole product, the 18
  blocks cover the region's result array, and the reshape after the region splits the merged axis again.
-/
module

public import proofs.«01_k».proof.Defs
public import proofs.«01_k».proof.Proof.Gen.KernelIdeal.Frame
public import proofs.«01_k».proof.Proof.Block
public import Idealize.ShloMosaic.Lib.Pipeline.Value
public import Idealize.ShloMosaic.Lib.StableHlo.Run

@[expose] public section

set_option maxRecDepth 16384

noncomputable section

namespace Cert.Proof.KernelValue

open Idealize.ShloMosaic Idealize.ShloMosaic.TcCoe Idealize.SL.Sem Cert.Proof.Nibble Cert.KernelIdeal Cert.KernelIdeal.Gen
open Idealize.ShloMosaic.Pipeline (Dat)

variable (m : (ℓ : Loc nD τ sig) → Buf (Elt Ideal) ℓ) (ρ : Dev nD → PrngReg)

/-- The offset `[0, 0]` is zero on both axes. -/
theorem hz : (![0, 0] : Fin 2 → Nat) = fun _ => 0 := funext fun a => by fin_cases a <;> rfl

/-- The dequantised product with the two leading axes of the activations merged: element `(i, j)` is the sum over the input
    features of the activation times the weight. -/
def prod (x : Vec Ideal S1024x7168 .bf16) (p : Vec Ideal S3584x36864 .i8) (s : Vec Ideal S56x36864 .bf16)
    (z : Vec Ideal S56x36864 .i8) : Vec Ideal S1024x36864 .bf16 := fun i =>
  (∑ k : Fin 7168, (x (ix2 (i 0 : Fin 1024) k) : EReal) * weight (p (ix2 ⟨k.val / 2, by omega⟩ (i 1 : Fin 36864))) (k.val % 2)
    (z (ix2 ⟨k.val / 128, by omega⟩ (i 1 : Fin 36864))) (s (ix2 ⟨k.val / 128, by omega⟩ (i 1 : Fin 36864))) : EReal)

/-- What the region's result array is shown to hold. -/
abbrev result (c : Dev nD) : Buf (Elt Ideal) ((c : Thread nD τ).loc main_v1) :=
  prod (V m c main_v0) (V m c main_arg1) (V m c main_arg2) (V m c main_arg3)

/-- Where each window's block lies at point `t`: the activations whole, the others 2048 columns from column `2048 t`. -/
theorem idx_facts : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) :=
  (by decide +kernel : ∀ t : Fin grid0.N, _)

/-- Column `j` of point `t`'s block is a column of the whole array. -/
theorem col_lt (t : Fin cfg0.N) (j : Fin 2048) : t.val * 2048 + j.val < 36864 := by
  have hN : cfg0.N = 18 := N_0
  have := t.isLt; have := j.isLt; omega

/-- The block of activations is the whole array at every point. -/
theorem iblk0_apply (c : Dev nD) (t : Fin cfg0.N) (i : Fin 1024) (k : Fin 7168) :
    iblk m c 0 t (ix2 i k) = V m c main_v0 (ix2 i k) := by
  refine congrArg (V m c main_v0) (funext fun a => Fin.ext ?_)
  obtain ⟨⟨h0, h1⟩, -⟩ := idx_facts t
  match a with
  | ⟨0, _⟩ => show win0_0.index t 0 * 1024 + 1 * i.val = i.val; rw [h0]; omega
  | ⟨1, _⟩ => show win0_0.index t 1 * 7168 + 1 * k.val = k.val; rw [h1]; omega

/-- The block of packed bytes at point `t` is the columns from `2048 t`. -/
theorem iblk1_apply (c : Dev nD) (t : Fin cfg0.N) (r : Fin 3584) (j : Fin 2048) :
    iblk m c 1 t (ix2 r j) = V m c main_arg1 (ix2 r ⟨t.val * 2048 + j.val, col_lt t j⟩) := by
  refine congrArg (V m c main_arg1) (funext fun a => Fin.ext ?_)
  obtain ⟨-, ⟨h0, h1⟩, -⟩ := idx_facts t
  match a with
  | ⟨0, _⟩ => show win0_1.index t 0 * 3584 + 1 * r.val = r.val; rw [h0]; omega
  | ⟨1, _⟩ => show win0_1.index t 1 * 2048 + 1 * j.val = t.val * 2048 + j.val; rw [h1]; omega

/-- The block of scales at point `t` is the columns from `2048 t`. -/
theorem iblk2_apply (c : Dev nD) (t : Fin cfg0.N) (r : Fin 56) (j : Fin 2048) :
    iblk m c 2 t (ix2 r j) = V m c main_arg2 (ix2 r ⟨t.val * 2048 + j.val, col_lt t j⟩) := by
  refine congrArg (V m c main_arg2) (funext fun a => Fin.ext ?_)
  obtain ⟨-, -, ⟨h0, h1⟩, -⟩ := idx_facts t
  match a with
  | ⟨0, _⟩ => show win0_2.index t 0 * 56 + 1 * r.val = r.val; rw [h0]; omega
  | ⟨1, _⟩ => show win0_2.index t 1 * 2048 + 1 * j.val = t.val * 2048 + j.val; rw [h1]; omega

/-- The block of zero points at point `t` is the columns from `2048 t`. -/
theorem iblk3_apply (c : Dev nD) (t : Fin cfg0.N) (r : Fin 56) (j : Fin 2048) :
    iblk m c 3 t (ix2 r j) = V m c main_arg3 (ix2 r ⟨t.val * 2048 + j.val, col_lt t j⟩) := by
  refine congrArg (V m c main_arg3) (funext fun a => Fin.ext ?_)
  obtain ⟨-, -, -, ⟨h0, h1⟩, -⟩ := idx_facts t
  match a with
  | ⟨0, _⟩ => show win0_3.index t 0 * 56 + 1 * r.val = r.val; rw [h0]; omega
  | ⟨1, _⟩ => show win0_3.index t 1 * 2048 + 1 * j.val = t.val * 2048 + j.val; rw [h1]; omega

/-- A result read through point `t`'s block: the columns from `2048 t`. -/
theorem blk4_apply (c : Dev nD) (g : Buf (Elt Ideal) ((c : Thread nD τ).loc main_v1)) (t : Fin cfg0.N) (i : Fin 1024)
    (j : Fin 2048) : (win0_4.blk t).view.read (Elt Ideal) g (ix2 i j) = g (ix2 i ⟨t.val * 2048 + j.val, col_lt t j⟩) := by
  refine congrArg g (funext fun a => Fin.ext ?_)
  obtain ⟨-, -, -, -, h0, h1⟩ := idx_facts t
  match a with
  | ⟨0, _⟩ => show win0_4.index t 0 * 1024 + 1 * i.val = i.val; rw [h0]; omega
  | ⟨1, _⟩ => show win0_4.index t 1 * 2048 + 1 * j.val = t.val * 2048 + j.val; rw [h1]; omega

/-- What point `t` writes back is its block of the whole product. -/
theorem flushed_eq (c : Dev nD) (t : Fin cfg0.N) :
    (dats m 0 c).flushed 4 t = (win0_4.blk t).view.read (Elt Ideal) (result m c) := by
  show (cfg0.win 4).cut (grid0.coords t) ((dats m 0 c).after 4 t) = _
  rw [after0_4]
  unfold out0_4
  rw [View.canon_unit_zero hz, View.ld_unit_zero (S := S3584x2048) hz, View.ld_unit_zero (S := S56x2048) hz,
    View.ld_unit_zero (S := S56x2048) hz, View.ld_unit_zero (S := S1024x7168) hz]
  funext q
  obtain ⟨i, j, rfl⟩ : ∃ (i : Fin 1024) (j : Fin 2048), q = ix2 i j :=
    ⟨q 0, q 1, funext fun a => by fin_cases a <;> rfl⟩
  rw [blk4_apply]
  refine (Block.pay_apply (iblk m c 1 t) (iblk m c 2 t) (iblk m c 3 t) (iblk m c 0 t) i j).trans ?_
  refine Finset.sum_congr rfl fun k _ => ?_
  rw [iblk0_apply, iblk1_apply, iblk2_apply, iblk3_apply]
  rfl

/-- An index of the result array is in point `t`'s block exactly when its column is one of the 2048 from `2048 t`. -/
theorem mem_blk (t : Fin cfg0.N) (i : S1024x36864.Idx) :
    i ∈ ((cfg0.win 4).blk t).view.set ↔ t.val * 2048 ≤ (i 1 : Nat) ∧ (i 1 : Nat) < t.val * 2048 + 2048 := by
  show i ∈ ((View.whole main_v1).slice (win0_4.rect t)).set ↔ _
  rw [View.set_slice_whole, Rect.mem_set_unit]
  have hi : (i 0 : Nat) < 1024 := (i 0).isLt
  obtain ⟨-, -, -, -, h0, h1⟩ := idx_facts t
  refine ⟨fun h => ?_, fun h a => ?_⟩
  · have : win0_4.index t 1 * 2048 ≤ (i 1 : Nat) ∧ (i 1 : Nat) < win0_4.index t 1 * 2048 + 2048 := h 1
    rw [h1] at this; exact this
  · match a with
    | ⟨0, _⟩ => show win0_4.index t 0 * 1024 ≤ (i 0 : Nat) ∧ (i 0 : Nat) < win0_4.index t 0 * 1024 + 1024
                rw [h0, Nat.zero_mul, Nat.zero_add]; exact ⟨Nat.zero_le _, hi⟩
    | ⟨1, _⟩ => show win0_4.index t 1 * 2048 ≤ (i 1 : Nat) ∧ (i 1 : Nat) < win0_4.index t 1 * 2048 + 2048
                rw [h1]; exact h

/-- The 18 blocks cover the result array. -/
theorem cover (i : S1024x36864.Idx) :
    ∃ t : Fin cfg0.N, (cfg0.win 4).flush t = true ∧ i ∈ ((cfg0.win 4).blk t).view.set := by
  have h1 : (i 1 : Nat) < 36864 := (i 1).isLt
  have hN : cfg0.N = 18 := N_0
  refine ⟨⟨(i 1 : Nat) / 2048, by omega⟩, flush0_4 _, ?_⟩
  rw [mem_blk]
  dsimp only
  omega

/-- So the region's result array ends holding the product. -/
theorem final_o (c : Dev nD) : (dats m 0 c).arrAt 4 cfg0.N = result m c :=
  (dats m 0 c).arrAt_eq_of_cover 4 (result m c) (fun t _ => flushed_eq m c t) cover

/-- The region finds the activations with their two leading axes merged. -/
theorem V_main_v0 (c : Dev nD) :
    V m c main_v0 = shapeCast S1024x7168 (m ((c : Thread nD τ).loc main_arg0)) shapeCasts_S2x512x7168_S1024x7168 := by
  show StableHlo.after hostOps0 _ (Proc.devRef .tc main_v0) = _
  after_results
  rfl

/-- @main's result: the product with the merged axis split again. -/
def out (x : Vec Ideal S2x512x7168 .bf16) (p : Vec Ideal S3584x36864 .i8) (s : Vec Ideal S56x36864 .bf16)
    (z : Vec Ideal S56x36864 .i8) : Vec Ideal S2x512x36864 .bf16 :=
  shapeCast S2x512x36864 (prod (shapeCast S1024x7168 x shapeCasts_S2x512x7168_S1024x7168) p s z)
    shapeCasts_S1024x36864_S2x512x36864

/-- The five windows stage five different arrays. -/
theorem arr_inj : Function.Injective (Pipeline.arrRef spec0) := by decide

/-- The line after the region leaves @main's result at `out` of the arguments. -/
theorem tail (c : Dev nD) :
    Pipeline.afterTail₀ cfgs (dats m) 0 (V0 m) [hostOps1] c main_v2
      = out (m ((c : Thread nD τ).loc main_arg0)) (m ((c : Thread nD τ).loc main_arg1))
          (m ((c : Thread nD τ).loc main_arg2)) (m ((c : Thread nD τ).loc main_arg3)) := by
  have h := Pipeline.withArrays_arr spec0 arr_inj c (V0 m c) (fun w => (dats m 0 c).arrAt w cfg0.N) 4
  show StableHlo.after hostOps1 _ (Proc.devRef .tc main_v2) = _
  after_results
  unfold out
  rw [← V_main_v0 m c, ← V_main_arg1 m c, ← V_main_arg2 m c, ← V_main_arg3 m c]
  exact congrArg (fun g : Vec Ideal S1024x36864 .bf16 => shapeCast S2x512x36864 g shapeCasts_S1024x36864_S2x512x36864)
    (h.trans (final_o m c))

/-- The run, read: @main's result at `out` of the arguments, and the arguments unchanged. -/
theorem run : θ_run defs (onTc (τ := τ) (main (F := Ideal))) ⟨m, fun _ => 0, ρ⟩ fun r => ∀ c : Dev nD,
      r.2.mem ((c.tc : Thread nD τ).loc main_v2)
        = out (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Proof.KernelValue

end
-- ==== Proof.RefAt.lean ====
/-
  Hand-written, untrusted. The reference's result, element by element: the same sum over the 7168 input features.
-/
module

public import proofs.«01_k».proof.Defs
public import proofs.«01_k».proof.Proof.Gen.ReferenceIdeal.Run
public import Idealize.ShloMosaic.Lib.Pointwise
public import proofs.«01_k».proof.Proof.Nibble

@[expose] public section

set_option maxRecDepth 16384

noncomputable section

namespace Cert.Proof.RefAt

open Idealize.ShloMosaic Idealize.SL.Sem Cert.Proof.Nibble Cert.ReferenceIdeal Cert.ReferenceIdeal.Gen

/-- The reference's result as a function of its four arguments: the printed operations composed. -/
abbrev refVal (x : Vec Ideal S2x512x7168 .bf16) (p : Vec Ideal S3584x36864 .i8) (s : Vec Ideal S56x36864 .bf16)
    (z : Vec Ideal S56x36864 .i8) : Vec Ideal S2x512x36864 .bf16 :=
  truncf (F := Ideal) .bf16 (Host.dotGeneral (F := Ideal) (φ₁ := .bf16) (φ₂ := .bf16) dot_S2x512x7168_S7168x36864_S2x512x36864_2_0_01_1_n_n none x (shapeCast _ (mulf (F := Ideal) (subf (F := Ideal) (sitofp (F := Ideal) .bf16 (shapeCast _ (concatenate S3584x2x36864 1 [⟨S3584x1x36864, (broadcastInDim S3584x1x36864 ![0, 2] bcast_S3584x36864_S3584x1x36864_0_2 (andi (extui 32 p natLt_8_32) (broadcastInDim S3584x36864 ![] bcast_S_S3584x36864 (constantI S_ 32 15#32))))⟩, ⟨S3584x1x36864, (broadcastInDim S3584x1x36864 ![0, 2] bcast_S3584x36864_S3584x1x36864_0_2 (Host.shrsi (extui 32 p natLt_8_32) (broadcastInDim S3584x36864 ![] bcast_S_S3584x36864 (constantI S_ 32 4#32))))⟩] concatenates_S3584x1x36864_S3584x1x36864_S3584x2x36864_d1) shapeCasts_S3584x2x36864_S56x128x36864)) (broadcastInDim S56x128x36864 ![0, 1, 2] bcast_S56x1x36864_S56x128x36864_0_1_2 (broadcastInDim S56x1x36864 ![0, 2] bcast_S56x36864_S56x1x36864_0_2 (sitofp (F := Ideal) .bf16 (extui 32 z natLt_8_32))))) (broadcastInDim S56x128x36864 ![0, 1, 2] bcast_S56x1x36864_S56x128x36864_0_1_2 (broadcastInDim S56x1x36864 ![0, 2] bcast_S56x36864_S56x1x36864_0_2 s))) shapeCasts_S56x128x36864_S7168x36864)) bitsLt_bf16_f32

/-- Element `(b, i, j)` of the reference's result is the sum over the 7168 input features of the activation times the
    dequantised weight. -/
theorem refVal_apply (x : Vec Ideal S2x512x7168 .bf16) (p : Vec Ideal S3584x36864 .i8) (s : Vec Ideal S56x36864 .bf16)
    (z : Vec Ideal S56x36864 .i8) (b : Fin 2) (i : Fin 512) (j : Fin 36864) :
    (refVal x p s z (ix3 b i j) : EReal)
      = ∑ k : Fin 7168, (x (ix3 b i k) : EReal) * weight (p (ix2 ⟨k.val / 2, by omega⟩ j)) (k.val % 2)
          (z (ix2 ⟨k.val / 128, by omega⟩ j)) (s (ix2 ⟨k.val / 128, by omega⟩ j)) := by
  pointwise [refVal]
  refine Finset.sum_congr rfl fun k _ => ?_
  have hrow : ∀ h : k.val / 128 * 64 + k.val % 128 / 2 < 3584,
      (⟨k.val / 128 * 64 + k.val % 128 / 2, h⟩ : Fin 3584) = ⟨k.val / 2, by omega⟩ := fun h => Fin.ext (by
    show k.val / 128 * 64 + k.val % 128 / 2 = k.val / 2
    omega)
  have hmod : k.val % 128 % 2 = k.val % 2 := by omega
  congr 1
  unfold weight
  congr 1
  rw [sitofp_byte]
  congr 1
  by_cases h : k.val % 2 < 1
  · rw [dif_pos (by rw [hmod]; exact h), sitofp_low, hrow, show k.val % 2 = 0 by omega]
  · rw [dif_neg (by rw [hmod]; exact h), sitofp_high, hrow, show k.val % 2 = 1 by omega]

end Cert.Proof.RefAt

end
-- ==== Proof.Equal.lean ====
/-
  Hand-written, untrusted. The kernel's result and the reference's result are equal, element by element.
-/
module

public import proofs.«01_k».proof.Proof.KernelValue
public import proofs.«01_k».proof.Proof.RefAt

@[expose] public section

set_option maxRecDepth 16384

noncomputable section

namespace Cert.Proof.Equal

open Idealize.ShloMosaic Idealize.ShloMosaic.TcCoe Idealize.SL.Sem Cert.Proof.Nibble
open Cert.KernelIdeal

/-- Element `(b, i, j)` of the kernel's result is the sum over the 7168 input features of the activation times the
    dequantised weight. -/
theorem out_apply (x : Vec Ideal S2x512x7168 .bf16) (p : Vec Ideal S3584x36864 .i8) (s : Vec Ideal S56x36864 .bf16)
    (z : Vec Ideal S56x36864 .i8) (b : Fin 2) (i : Fin 512) (j : Fin 36864) :
    (KernelValue.out x p s z (ix3 b i j) : EReal)
      = ∑ k : Fin 7168, (x (ix3 b i k) : EReal) * weight (p (ix2 ⟨k.val / 2, by omega⟩ j)) (k.val % 2)
          (z (ix2 ⟨k.val / 128, by omega⟩ j)) (s (ix2 ⟨k.val / 128, by omega⟩ j)) := by
  unfold KernelValue.out
  pointwise
  have hx : ∀ (h : b.val * 512 + i.val < 1024) (k : Fin 7168),
      shapeCast S1024x7168 x Gen.shapeCasts_S2x512x7168_S1024x7168 (ix2 ⟨b.val * 512 + i.val, h⟩ k) = x (ix3 b i k) := by
    intro h k
    pointwise
  unfold KernelValue.prod
  refine Finset.sum_congr rfl fun k _ => ?_
  exact congrArg (fun y : EReal => y * _) (hx _ k)

/-- The kernel's result and the reference's are the same function of the four arguments. -/
theorem out_eq (x : Vec Ideal S2x512x7168 .bf16) (p : Vec Ideal S3584x36864 .i8) (s : Vec Ideal S56x36864 .bf16)
    (z : Vec Ideal S56x36864 .i8) : RefAt.refVal x p s z = KernelValue.out x p s z := by
  funext q
  obtain ⟨b, i, j, rfl⟩ : ∃ (b : Fin 2) (i : Fin 512) (j : Fin 36864), q = ix3 b i j :=
    ⟨q 0, q 1, q 2, funext fun a => by fin_cases a <;> rfl⟩
  exact (RefAt.refVal_apply x p s z b i j).trans (out_apply x p s z b i j).symm

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import proofs.«01_k».proof.Proof.Equal
public import Idealize.ShloMosaic.Lib.Quiescent
public import Idealize.ShloMosaic.Init

@[expose] public section

noncomputable section

namespace Cert.Proof

open Idealize.ShloMosaic Idealize.SL.Sem Cert.Kernel

/-- The reference runs, leaves its arguments unchanged, and (declaring no semaphore) ends with every counter at zero. -/
theorem frame_reference : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- From equal arguments the idealized kernel and the reference both run and end with equal results and unchanged arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => KernelValue.out (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)), KernelValue.run m g, ?_⟩
  refine (θ_run (Cert.ReferenceIdeal.defs (F := Ideal)) _ _).mono (fun r h c => ?_)
    (Cert.ReferenceIdeal.Value.run (F := Ideal) m' g')
  obtain ⟨hv, hrest⟩ := h c
  refine ⟨hv.trans ?_, hrest⟩
  rw [(hargs c).1, (hargs c).2.1, (hargs c).2.2.1, (hargs c).2.2.2]
  exact Equal.out_eq _ _ _ _

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, algebraic⟩

end Cert.Proof

end
